-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_of_the_lane [hPre_segments_of_the_lane : Cert.Pre_segments_of_the_lane.Facts] (m : (ℓ : Loc Cert.KernelIdeal.nD Cert.KernelIdeal.τ Cert.KernelIdeal.sig) → Buf (Elt Ideal) ℓ) : Prop :=
  ∀ c : Dev Cert.KernelIdeal.nD,
    (Cert.Pre_segments_of_the_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_of_the_lane [hPre_segments_of_the_lane : Cert.Pre_segments_of_the_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_of_the_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_segments_of_the_lane [hKernelIdeal : Cert.KernelIdeal.Facts] [hPre_segments_of_the_lane : Cert.Pre_segments_of_the_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_of_the_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_segments_of_the_lane [hReferenceIdeal : Cert.ReferenceIdeal.Facts] [hPre_segments_of_the_lane : Cert.Pre_segments_of_the_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_of_the_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_segments_of_the_lane [hKernelIdeal : Cert.KernelIdeal.Facts] [hReferenceIdeal : Cert.ReferenceIdeal.Facts] [hPre_segments_of_the_lane : Cert.Pre_segments_of_the_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_of_the_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_segments_of_the_lane : Cert.Pre_segments_of_the_lane.Facts),
    quiescent_Kernel (hKernel := hKernel)
    ∧ quiescent_KernelIdeal (hKernelIdeal := hKernelIdeal)
    ∧ quiescent_KernelIdeal_pre_segments_of_the_lane (hKernelIdeal := hKernelIdeal) (hPre_segments_of_the_lane := hPre_segments_of_the_lane)
    ∧ quiescent_ReferenceIdeal (hReferenceIdeal := hReferenceIdeal)
    ∧ quiescent_ReferenceIdeal_pre_segments_of_the_lane (hReferenceIdeal := hReferenceIdeal) (hPre_segments_of_the_lane := hPre_segments_of_the_lane)
    ∧ preserves_Kernel_KernelIdeal
    ∧ algebraic_KernelIdeal_ReferenceIdeal_pre_segments_of_the_lane (hKernelIdeal := hKernelIdeal) (hReferenceIdeal := hReferenceIdeal) (hPre_segments_of_the_lane := hPre_segments_of_the_lane)
-- ==== Pre_segments_of_the_lane.lean ====
abbrev S50000x2 : Shape := ⟨2, ![50000, 2]⟩
abbrev S50000 : Shape := ⟨1, ![50000]⟩
abbrev S50000x150x4 : Shape := ⟨3, ![50000, 150, 4]⟩
abbrev S_ : Shape := ⟨0, ![]⟩

class Facts : Prop where
  bcast_S_S50000 : S_.BroadcastsInDim S50000 (![] : Fin 0 → Fin S50000.rank)

variable [Facts]

def fn {F : FTy → Type} [FloatOps F] (main_arg0 : FVec F S50000x2 .f32) (main_arg1 : FVec F S50000x2 .f32) (main_arg2 : IVec S50000 32) (main_arg3 : IVec S50000 32) (main_arg4 : FVec F S50000x150x4 .f32) : IVec S50000 1 :=
  let main_c : IVec S_ 32 := constantI S_ 32 0#32
  let main_v0 : IVec S50000 32 := broadcastInDim S50000 ![] bcast_S_S50000 main_c
  let main_v1 : IVec S50000 1 := cmpi .sge main_arg2 main_v0
  let main_c_0 : IVec S_ 32 := constantI S_ 32 149#32
  let main_v2 : IVec S50000 32 := broadcastInDim S50000 ![] bcast_S_S50000 main_c_0
  let main_v3 : IVec S50000 1 := cmpi .slt main_arg2 main_v2
  let main_v4 : IVec S50000 1 := andi main_v1 main_v3
  let main_c_1 : IVec S_ 32 := constantI S_ 32 1#32
  let main_v5 : IVec S50000 32 := broadcastInDim S50000 ![] bcast_S_S50000 main_c_1
  let main_v6 : IVec S50000 32 := addi main_arg2 main_v5
  let main_v7 : IVec S50000 1 := cmpi .eq main_arg3 main_v6
  let main_v8 : IVec S50000 1 := andi main_v4 main_v7
  main_v8
-- ==== Kernel.lean ====
abbrev S50000x2 : Shape := ⟨2, ![50000, 2]⟩
abbrev S50000 : Shape := ⟨1, ![50000]⟩
abbrev S50000x150x4 : Shape := ⟨3, ![50000, 150, 4]⟩
abbrev S50000x150x1 : Shape := ⟨3, ![50000, 150, 1]⟩
abbrev S50000x150 : Shape := ⟨2, ![50000, 150]⟩
abbrev S2x50000 : Shape := ⟨2, ![2, 50000]⟩
abbrev S1x50000 : Shape := ⟨2, ![1, 50000]⟩
abbrev S5x50000 : Shape := ⟨2, ![5, 50000]⟩
abbrev S5x25x2000 : Shape := ⟨3, ![5, 25, 2000]⟩
abbrev S25x5x2000 : Shape := ⟨3, ![25, 5, 2000]⟩
abbrev S25x2x2000 : Shape := ⟨3, ![25, 2, 2000]⟩
abbrev S2000x150 : Shape := ⟨2, ![2000, 150]⟩
abbrev S1x5x2000 : Shape := ⟨3, ![1, 5, 2000]⟩
abbrev S1x2x2000 : Shape := ⟨3, ![1, 2, 2000]⟩
abbrev S5x2000 : Shape := ⟨2, ![5, 2000]⟩
abbrev S2000x5 : Shape := ⟨2, ![2000, 5]⟩
abbrev S2000x1 : Shape := ⟨2, ![2000, 1]⟩
abbrev S2000x149 : Shape := ⟨2, ![2000, 149]⟩
abbrev S1x149 : Shape := ⟨2, ![1, 149]⟩
abbrev S2000 : Shape := ⟨1, ![2000]⟩
abbrev S1x150 : Shape := ⟨2, ![1, 150]⟩
abbrev S2000x2 : Shape := ⟨2, ![2000, 2]⟩
abbrev S2x2000 : Shape := ⟨2, ![2, 2000]⟩
abbrev S25x2000x2 : Shape := ⟨3, ![25, 2000, 2]⟩

abbrev nBuf : Space → Nat
  | .hbm => 19
  | .vmem => 8
  | .smem => 0
  | _ => 0

abbrev bufTy : (tb : Table) → Fin (tcTables nBuf tb) → BufTy
  | .hbm, ⟨0, _⟩ => ⟨S50000x2, .f32⟩
  | .hbm, ⟨1, _⟩ => ⟨S50000x2, .f32⟩
  | .hbm, ⟨2, _⟩ => ⟨S50000, .i32⟩
  | .hbm, ⟨3, _⟩ => ⟨S50000, .i32⟩
  | .hbm, ⟨4, _⟩ => ⟨S50000x150x4, .f32⟩
  | .hbm, ⟨5, _⟩ => ⟨S50000x150x1, .f32⟩
  | .hbm, ⟨6, _⟩ => ⟨S50000x150, .f32⟩
  | .hbm, ⟨7, _⟩ => ⟨S50000x150x1, .f32⟩
  | .hbm, ⟨8, _⟩ => ⟨S50000x150, .f32⟩
  | .hbm, ⟨9, _⟩ => ⟨S2x50000, .f32⟩
  | .hbm, ⟨10, _⟩ => ⟨S2x50000, .f32⟩
  | .hbm, ⟨11, _⟩ => ⟨S50000, .f32⟩
  | .hbm, ⟨12, _⟩ => ⟨S1x50000, .f32⟩
  | .hbm, ⟨13, _⟩ => ⟨S5x50000, .f32⟩
  | .hbm, ⟨14, _⟩ => ⟨S5x25x2000, .f32⟩
  | .hbm, ⟨15, _⟩ => ⟨S25x5x2000, .f32⟩
  | .hbm, ⟨16, _⟩ => ⟨S25x2x2000, .f32⟩
  | .hbm, ⟨17, _⟩ => ⟨S25x2000x2, .f32⟩
  | .hbm, ⟨18, _⟩ => ⟨S50000x2, .f32⟩
  | .local _ .vmem, ⟨0, _⟩ => ⟨S2000x150, .f32⟩
  | .local _ .vmem, ⟨1, _⟩ => ⟨S2000x150, .f32⟩
  | .local _ .vmem, ⟨2, _⟩ => ⟨S2000x150, .f32⟩
  | .local _ .vmem, ⟨3, _⟩ => ⟨S2000x150, .f32⟩
  | .local _ .vmem, ⟨4, _⟩ => ⟨S1x5x2000, .f32⟩
  | .local _ .vmem, ⟨5, _⟩ => ⟨S1x5x2000, .f32⟩
  | .local _ .vmem, ⟨6, _⟩ => ⟨S1x2x2000, .f32⟩
  | .local _ .vmem, ⟨7, _⟩ => ⟨S1x2x2000, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x150 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x2 : Shape := ⟨2, ![50000, 2]⟩
abbrev S50000 : Shape := ⟨1, ![50000]⟩
abbrev S50000x150x4 : Shape := ⟨3, ![50000, 150, 4]⟩
abbrev S50000x149x2 : Shape := ⟨3, ![50000, 149, 2]⟩
abbrev S_ : Shape := ⟨0, ![]⟩
abbrev S50000x149 : Shape := ⟨2, ![50000, 149]⟩
abbrev S50000x1 : Shape := ⟨2, ![50000, 1]⟩
abbrev S50000x150 : Shape := ⟨2, ![50000, 150]⟩
abbrev S50000x3 : Shape := ⟨2, ![50000, 3]⟩
abbrev S1x50000x1x1 : Shape := ⟨4, ![1, 50000, 1, 1]⟩
abbrev S1x50000x2x1 : Shape := ⟨4, ![1, 50000, 2, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S50000x2, .f32⟩
  | .hbm, ⟨2, _⟩ => ⟨S50000, .i32⟩
  | .hbm, ⟨3, _⟩ => ⟨S50000, .i32⟩
  | .hbm, ⟨4, _⟩ => ⟨S50000x150x4, .f32⟩
  | .hbm, ⟨5, _⟩ => ⟨S50000x149x2, .f32⟩
  | .hbm, ⟨6, _⟩ => ⟨S50000x149x2, .f32⟩
  | .hbm, ⟨7, _⟩ => ⟨S50000x149x2, .f32⟩
  | .hbm, ⟨8, _⟩ => ⟨S50000x149x2, .f32⟩
  | .hbm, ⟨9, _⟩ => ⟨S_, .f32⟩
  | .hbm, ⟨10, _⟩ => ⟨S50000x149, .f32⟩
  | .hbm, ⟨11, _⟩ => ⟨S50000x149, .f32⟩
  | .hbm, ⟨12, _⟩ => ⟨S_, .f32⟩
  | .hbm, ⟨13, _⟩ => ⟨S50000x1, .f32⟩
  | .hbm, ⟨14, _⟩ => ⟨S50000x150, .f32⟩
  | .hbm, ⟨15, _⟩ => ⟨S_, .f32⟩
  | .hbm, ⟨16, _⟩ => ⟨S_, .f32⟩
  | .hbm, ⟨17, _⟩ => ⟨S50000x150, .f32⟩
  | .hbm, ⟨18, _⟩ => ⟨S50000, .i32⟩
  | .hbm, ⟨19, _⟩ => ⟨S_, .i32⟩
  | .hbm, ⟨20, _⟩ => ⟨S50000, .i32⟩
  | .hbm, ⟨21, _⟩ => ⟨S50000, .i1⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .i32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x1, .i32⟩
  | .hbm, ⟨35, _⟩ => ⟨S_, .i32⟩
  | .hbm, ⟨36, _⟩ => ⟨S50000x1, .i32⟩
  | .hbm, ⟨37, _⟩ => ⟨S50000x3, .i32⟩
  | .hbm, ⟨38, _⟩ => ⟨S50000x2, .f32⟩
  | .hbm, ⟨39, _⟩ => ⟨S_, .i32⟩
  | .hbm, ⟨40, _⟩ => ⟨S50000, .i32⟩
  | .hbm, ⟨41, _⟩ => ⟨S50000, .i1⟩
  | .hbm, ⟨42, _⟩ => ⟨S_, .i32⟩
  | .hbm, ⟨43, _⟩ => ⟨S50000, .i32⟩
  | .hbm, ⟨44, _⟩ => ⟨S50000, .i32⟩
  | .hbm, ⟨45, _⟩ => ⟨S50000, .i32⟩
  | .hbm, ⟨46, _⟩ => ⟨S_, .i32⟩
  | .hbm, ⟨47, _⟩ => ⟨S50000, .i32⟩
  | .hbm, ⟨48, _⟩ => ⟨S50000, .i1⟩
  | .hbm, ⟨49, _⟩ => ⟨S_, .i32⟩
  | .hbm, ⟨50, _⟩ => ⟨S50000, .i32⟩
  | .hbm, ⟨51, _⟩ => ⟨S50000, .i32⟩
  | .hbm, ⟨52, _⟩ => ⟨S50000, .i32⟩
  | .hbm, ⟨53, _⟩ => ⟨S50000x1, .i32⟩
  | .hbm, ⟨54, _⟩ => ⟨S50000x1, .i32⟩
  | .hbm, ⟨55, _⟩ => ⟨S_, .i32⟩
  | .hbm, ⟨56, _⟩ => ⟨S50000x1, .i32⟩
  | .hbm, ⟨57, _⟩ => ⟨S50000x3, .i32⟩
  | .hbm, ⟨58, _⟩ => ⟨S50000x2, .f32⟩
  | .hbm, ⟨59, _⟩ => ⟨S50000x2, .f32⟩
  | .hbm, ⟨60, _⟩ => ⟨S50000x2, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S1x50000x1x1, .f32⟩
  | .hbm, ⟨66, _⟩ => ⟨S1x50000x2x1, .f32⟩
  | .hbm, ⟨67, _⟩ => ⟨S50000x2, .f32⟩
  | .hbm, ⟨68, _⟩ => ⟨S50000x2, .f32⟩
  | .hbm, ⟨69, _⟩ => ⟨S50000x2, .f32⟩
  | .hbm, ⟨70, _⟩ => ⟨S50000x2, .f32⟩
  | .hbm, ⟨71, _⟩ => ⟨S_, .f32⟩
  | .hbm, ⟨72, _⟩ => ⟨S50000, .f32⟩
  | .hbm, ⟨73, _⟩ => ⟨S_, .i32⟩
  | .hbm, ⟨74, _⟩ => ⟨S50000, .i32⟩
  | .hbm, ⟨75, _⟩ => ⟨S50000, .i1⟩
  | .hbm, ⟨76, _⟩ => ⟨S_, .i32⟩
  | .hbm, ⟨77, _⟩ => ⟨S50000, .i32⟩
  | .hbm, ⟨78, _⟩ => ⟨S50000, .i32⟩
  | .hbm, ⟨79, _⟩ => ⟨S50000, .i32⟩
  | .hbm, ⟨80, _⟩ => ⟨S_, .i32⟩
  | .hbm, ⟨81, _⟩ => ⟨S50000, .i32⟩
  | .hbm, ⟨82, _⟩ => ⟨S50000, .i1⟩
  | .hbm, ⟨83, _⟩ => ⟨S_, .i32⟩
  | .hbm, ⟨84, _⟩ => ⟨S50000, .i32⟩
  | .hbm, ⟨85, _⟩ => ⟨S50000, .i32⟩
  | .hbm, ⟨86, _⟩ => ⟨S50000, .i32⟩
  | .hbm, ⟨87, _⟩ => ⟨S50000x1, .i32⟩
  | .hbm, ⟨88, _⟩ => ⟨S50000x1, .i32⟩
  | .hbm, ⟨89, _⟩ => ⟨S50000x2, .i32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000, .f32⟩
  | .hbm, ⟨95, _⟩ => ⟨S50000x1, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000, .f32⟩
  | .hbm, ⟨100, _⟩ => ⟨S50000x1, .f32⟩
  | .hbm, ⟨101, _⟩ => ⟨S50000, .f32⟩
  | .hbm, ⟨102, _⟩ => ⟨S50000, .f32⟩
  | .hbm, ⟨103, _⟩ => ⟨S50000, .f32⟩
  | .hbm, ⟨104, _⟩ => ⟨S50000x1, .f32⟩
  | .hbm, ⟨105, _⟩ => ⟨S50000x2, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Proof.Spec.lean ====
/-
  The mathematics of the problem, row by row, over the extended reals: the lane of one row is a polyline of 150 points
  (`x k`, `y k`), the row's projected point lies on segment `i`, and the two results are its arclength `S` along the lane
  and its signed lateral offset `L`. Both programs are shown to compute `out`.
-/
module

public import Idealize.ShloMosaic.Lib.Pointwise

@[expose] public section

noncomputable section

open Idealize.ShloMosaic

namespace Cert.Lane

/-- One coordinate of the 150 points of a lane. -/
abbrev Row := Fin 150 → EReal

/-- The Euclidean length of a planar vector. -/
def len (u v : EReal) : EReal := Ideal.sqrt (u * u + v * v)

/-- Segment `j`'s start among the points. -/
abbrev lo (j : Fin 149) : Fin 150 := ⟨j.val, by omega⟩
/-- Segment `j`'s end among the points. -/
abbrev hi (j : Fin 149) : Fin 150 := ⟨1 + j.val, by omega⟩

/-- The length of segment `j`. -/
def seg (x y : Row) (j : Fin 149) : EReal := len (x (hi j) - x (lo j)) (y (hi j) - y (lo j))

/-- The arclength at point `k`: the lengths of the segments before it. -/
def arc (x y : Row) (k : Nat) : EReal := ∑ j : Fin 149, if j.val < k then seg x y j else 0

/-- One coordinate of the unit vector along segment `i`: that coordinate's increment over the segment's length. -/
def unit (x y : Row) (i : Fin 149) (z : Row) : EReal := Ideal.div (z (hi i) - z (lo i)) (seg x y i)

/-- The arclength of the projected point (`px`, `py`): the arclength at the segment's start and the projection of the
    point's offset from that start on the segment's direction. -/
def arcOf (x y : Row) (px py : EReal) (i : Fin 149) : EReal :=
  arc x y i.val + ((px - x (lo i)) * unit x y i x + (py - y (lo i)) * unit x y i y)

/-- The signed lateral offset: the cross product of the displacement (`dx`, `dy`) with the segment's direction. -/
def lateral (x y : Row) (dx dy : EReal) (i : Fin 149) : EReal :=
  dx * unit x y i y - dy * unit x y i x

/-- The two results of a row. -/
def out (x y : Row) (px py dx dy : EReal) (i : Fin 149) (q : Fin 2) : EReal :=
  if q.val = 0 then arcOf x y px py i else lateral x y dx dy i

/-- A segment number as an index; a word outside the lane's segments names the last one, which no claim depends on. -/
def segOf (w : BitVec 32) : Fin 149 := ⟨min w.toNat 148, by omega⟩

/-- A word below 149 is the segment number it names. -/
theorem segOf_spec (w : BitVec 32) (hw : w.toNat < 149) : w = BitVec.ofNat 32 (segOf w).val := by
  have e : (segOf w).val = w.toNat := Nat.min_eq_left (by omega)
  rw [e, BitVec.ofNat_toNat, BitVec.setWidth_eq]

/-- The two results of row `r`, from the lanes `A`, the projected points `P`, the displacements `D` and the segment
    numbers `J`. -/
def rowOut (A : (⟨3, ![50000, 150, 4]⟩ : Shape).Idx → EReal) (P D : (⟨2, ![50000, 2]⟩ : Shape).Idx → EReal)
    (J : (⟨1, ![50000]⟩ : Shape).Idx → BitVec 32) (r : Fin 50000) (q : Fin 2) : EReal :=
  out (fun k => A (ix3 r k 0)) (fun k => A (ix3 r k 1)) (P (ix2 r 0)) (P (ix2 r 1)) (D (ix2 r 0)) (D (ix2 r 1))
    (segOf (J (ix1 r))) q

/-- Every row's two results, as one array. -/
def result (A : (⟨3, ![50000, 150, 4]⟩ : Shape).Idx → EReal) (P D : (⟨2, ![50000, 2]⟩ : Shape).Idx → EReal)
    (J : (⟨1, ![50000]⟩ : Shape).Idx → BitVec 32) : (⟨2, ![50000, 2]⟩ : Shape).Idx → EReal :=
  fun j => rowOut A P D J (j 0) (j 1)

/-- A sum in which a mask keeps one term is that term. -/
theorem sum_pick {n : Nat} (f : Fin n → EReal) (p : Fin n → Prop) [DecidablePred p] (i : Fin n)
    (hp : ∀ k, p k ↔ k = i) : (∑ k, if p k then f k else 0) = f i := by
  simp [hp]

/-- A word below 149 read as a number and rounded back is itself. -/
theorem fptosi_word (w : BitVec 32) (hw : w.toNat < 149) :
    Ideal.fptosi 32 (FloatOps.sitofp (F := Ideal) .f32 w) = w := by
  have e : w.toInt = (w.toNat : ℤ) := by rw [BitVec.toInt_eq_toNat_cond, if_pos (by omega)]
  show BitVec.ofInt 32 (Ideal.toIntClamped _ _ ((w.toInt : ℝ) : EReal)) = w
  have h0 : (0 : ℝ) ≤ (w.toInt : ℝ) := by rw [e]; positivity
  rw [Ideal.toIntClamped_coe, if_pos h0, Int.floor_intCast]
  have : max (-((2 ^ (32 - 1) : Nat) : ℤ)) (min (((2 ^ (32 - 1) : Nat) : ℤ) - 1) w.toInt) = w.toInt := by
    rw [e]
    norm_num
    omega
  rw [this, BitVec.ofInt_toInt]

end Cert.Lane
-- ==== Proof.Block.lean ====
/-
  What one grid point's block computes: from the block's lane coordinates and small arrays, `out0_3` is `Lane.out` of each row.
-/
module

public import proofs.«01_k».proof.Proof.Gen.KernelIdeal.Frame
public import proofs.«01_k».proof.Proof.Spec

@[expose] public section

set_option maxRecDepth 16384

noncomputable section

open Idealize.ShloMosaic
open Cert.KernelIdeal Cert.KernelIdeal.Gen

namespace Cert.Lane

variable (x0 x1 : FVec Ideal S2000x150 .f32) (x2 : FVec Ideal S1x5x2000 .f32) (b : Fin 2000)

/-- The segment number of a block's row, rounded to an integer. -/
theorem pay5_at : k0_pay5 (F := Ideal) x2 (ix2 b 0) = Ideal.fptosi 32 (x2 (ix3 0 4 b)) := by
  pointwise [k0_pay5, k0_pay4]
  rfl

variable {b}
variable (i : Fin 149) (h : Ideal.fptosi 32 (x2 (ix3 0 4 b)) = BitVec.ofNat 32 i.val)
include h

/-- The first mask is set at the segment's start alone, -/
theorem pay7_at (k : Fin 150) : k0_pay7 (F := Ideal) x2 (ix2 b k) = 1 ↔ k = lo i := by
  pointwise [k0_pay7]
  rw [pay5_at, h]
  exact (WordCmp.cmpi_eq_ofNat_eq_one_iff (w := 32) (by omega) (by omega)).trans
    (Fin.ext_iff (a := k) (b := lo i)).symm

/-- and the second at its end alone. -/
theorem pay8_at (k : Fin 150) : k0_pay8 (F := Ideal) x2 (ix2 b k) = 1 ↔ k = hi i := by
  pointwise [k0_pay8]
  rw [pay5_at, h]
  have e : IntOp.addi (BitVec.ofNat 32 i.val) 1#32 = BitVec.ofNat 32 (1 + i.val) := by
    rw [Nat.add_comm]; exact (BitVec.ofNat_add i.val 1).symm
  rw [e]
  exact (WordCmp.cmpi_eq_ofNat_eq_one_iff (w := 32) (by omega) (by omega)).trans
    (Fin.ext_iff (a := k) (b := hi i)).symm

/-- A masked sum of a block's row at the segment's start, -/
theorem pick_lo (f : Fin 150 → EReal) : (∑ k, Scalar.select (k0_pay7 (F := Ideal) x2 (ix2 b k)) (f k) 0) = f (lo i) := by
  simp only [Scalar.select_def]
  exact sum_pick f _ (lo i) (pay7_at x2 i h)

/-- and at its end. -/
theorem pick_hi (f : Fin 150 → EReal) : (∑ k, Scalar.select (k0_pay8 (F := Ideal) x2 (ix2 b k)) (f k) 0) = f (hi i) := by
  simp only [Scalar.select_def]
  exact sum_pick f _ (hi i) (pay8_at x2 i h)

/-- The start of the segment, first coordinate, -/
theorem pay9_at : k0_pay9 (F := Ideal) x0 x2 (ix2 b 0) = x0 (ix2 b (lo i)) := by
  pointwise [k0_pay9, k0_pay2]
  exact pick_lo x2 i h fun k => x0 (ix2 b k)

/-- and second coordinate. -/
theorem pay10_at : k0_pay10 (F := Ideal) x1 x2 (ix2 b 0) = x1 (ix2 b (lo i)) := by
  pointwise [k0_pay10, k0_pay3]
  exact pick_lo x2 i h fun k => x1 (ix2 b k)

/-- The masked sum of the segments' lengths is the arclength at the segment's start. -/
theorem pay6_at : k0_pay6 (F := Ideal) x0 x1 x2 (ix2 b 0)
    = arc (fun k => x0 (ix2 b k)) (fun k => x1 (ix2 b k)) i.val := by
  pointwise [k0_pay6, k0_pay2, k0_pay3]
  refine Finset.sum_congr rfl fun j _ => ?_
  rw [pay5_at, h, Scalar.select_def]
  exact if_congr (WordCmp.cmpi_slt_ofNat_eq_one_iff (w := 32) (by omega) (by omega)) rfl rfl

/-- The block's results, a row's two in the order stored: the row's arclength and lateral offset. -/
theorem pay1_at (q : Fin 2) :
    k0_pay1 (F := Ideal) (k0_pay2 (F := Ideal) x0) (k0_pay3 (F := Ideal) x1) (k0_pay4 (F := Ideal) x2) (k0_pay6 (F := Ideal) x0 x1 x2) (k0_pay8 (F := Ideal) x2) (k0_pay9 (F := Ideal) x0 x2)
        (k0_pay10 (F := Ideal) x1 x2) (Scalar.ofBits .f32 0x00000000#32) (ix3 0 q b)
      = out (fun k => x0 (ix2 b k)) (fun k => x1 (ix2 b k)) (x2 (ix3 0 0 b)) (x2 (ix3 0 1 b)) (x2 (ix3 0 2 b))
          (x2 (ix3 0 3 b)) i q := by
  pointwise [k0_pay1, k0_pay2, k0_pay3, k0_pay4]
  have e6 (z : Fin 1) : k0_pay6 (F := Ideal) x0 x1 x2 (ix2 b z)
      = arc (fun k => x0 (ix2 b k)) (fun k => x1 (ix2 b k)) i.val := by
    rw [Subsingleton.elim z 0]; exact pay6_at x0 x1 x2 i h
  have e9 (z : Fin 1) : k0_pay9 (F := Ideal) x0 x2 (ix2 b z) = x0 (ix2 b (lo i)) := by
    rw [Subsingleton.elim z 0]; exact pay9_at x0 x2 i h
  have e10 (z : Fin 1) : k0_pay10 (F := Ideal) x1 x2 (ix2 b z) = x1 (ix2 b (lo i)) := by
    rw [Subsingleton.elim z 0]; exact pay10_at x1 x2 i h
  have eu := pick_hi x2 i h fun k => x0 (ix2 b k)
  have ev := pick_hi x2 i h fun k => x1 (ix2 b k)
  simp only [e6, e9, e10, eu, ev]
  match q with
  | ⟨0, _⟩ =>
    rw [dif_pos (show (0 : Nat) < 1 by decide), add_assoc]
    rfl
  | ⟨1, _⟩ =>
    rw [dif_neg (show ¬ (1 : Nat) < 1 by decide)]
    rfl

omit h in
theorem hz2 : (![0, 0] : Fin 2 → Nat) = fun _ => 0 := funext fun a => by fin_cases a <;> rfl
omit h in
theorem hz3 : (![0, 0, 0] : Fin 3 → Nat) = fun _ => 0 := funext fun a => by fin_cases a <;> rfl

/-- What the body leaves in the output's staging buffer, read at a row: the row's two results. -/
theorem block_at (q : Fin 2) :
    out0_3 (F := Ideal) x0 x1 x2 (ix3 0 q b)
      = out (fun k => x0 (ix2 b k)) (fun k => x1 (ix2 b k)) (x2 (ix3 0 0 b)) (x2 (ix3 0 1 b)) (x2 (ix3 0 2 b))
          (x2 (ix3 0 3 b)) i q := by
  unfold out0_3
  rw [View.canon_unit_zero hz3, View.ld_unit_zero hz2, View.ld_unit_zero hz2, View.ld_unit_zero hz3]
  exact pay1_at x0 x1 x2 i h q

end Cert.Lane
-- ==== Proof.Array.lean ====
/-
  What the kernel's arrays hold: the region's output array, block by block, and the result array after the host's transposition.
-/
module

public import proofs.«01_k».proof.Proof.Block
public import Idealize.ShloMosaic.Lib.Pipeline.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Lane

variable (m : (ℓ : Loc nD τ sig) → Buf (Elt Ideal) ℓ) (c : Dev nD)

/-- The five argument arrays. -/
abbrev P : FVec Ideal S50000x2 .f32 := m ((c : Thread nD τ).loc main_arg0)
abbrev D : FVec Ideal S50000x2 .f32 := m ((c : Thread nD τ).loc main_arg1)
abbrev J : IVec S50000 32 := m ((c : Thread nD τ).loc main_arg2)
abbrev A : FVec Ideal S50000x150x4 .f32 := m ((c : Thread nD τ).loc main_arg4)

/-- The first coordinates of the lanes, as the region finds them: a slice of the lanes' features. -/
theorem v1_at (r : Fin 50000) (k : Fin 150) : (V m c main_v1 : FVec Ideal S50000x150 .f32) (ix2 r k) = A m c (ix3 r k 0) := by
  unfold V V0
  after_reads_at

/-- The second coordinates likewise. -/
theorem v3_at (r : Fin 50000) (k : Fin 150) : (V m c main_v3 : FVec Ideal S50000x150 .f32) (ix2 r k) = A m c (ix3 r k 1) := by
  unfold V V0
  after_reads_at

/-- The small arrays packed in blocks of five rows: the projected point, the displacement, the segment number. -/
theorem v10_at (t : Fin 25) (q : Fin 5) (b : Fin 2000) : (V m c main_v10 : FVec Ideal S25x5x2000 .f32) (ix3 t q b)
    = (if h : q.val < 2 then P m c (ix2 ⟨t.val * 2000 + b.val, by omega⟩ ⟨q.val, h⟩)
      else if h : q.val - 2 < 2 then D m c (ix2 ⟨t.val * 2000 + b.val, by omega⟩ ⟨q.val - 2, h⟩)
      else FloatOps.sitofp (F := Ideal) .f32 (J m c (ix1 ⟨t.val * 2000 + b.val, by omega⟩)) : EReal) := by
  unfold V V0
  after_reads_at
  split
  · after_reads_at
  split
  · after_reads_at
  · after_reads_at

/-- The row of the arrays that row `b` of block `t` is. -/
abbrev row (t : Fin 25) (b : Fin 2000) : Fin 50000 := ⟨t.val * 2000 + b.val, by omega⟩

/-- The blocks' places: every window moves one block a point, along its first axis. -/
theorem idx : ∀ t : Fin cfg0.N,
    win0_0.index t = ![t.val, 0] ∧ win0_1.index t = ![t.val, 0] ∧ win0_2.index t = ![t.val, 0, 0]
      ∧ win0_3.index t = ![t.val, 0, 0] :=
  (by decide +kernel : ∀ t : Fin grid0.N, _)

/-- A grid point's number. -/
abbrev pt (t : Fin cfg0.N) : Fin 25 := ⟨t.val, t.isLt⟩

/-- The three input blocks at point `t`, read at an index. -/
theorem blk0_at (t : Fin cfg0.N) (b : Fin 2000) (k : Fin 150) :
    iblk m c 0 t (ix2 b k) = A m c (ix3 (row (pt t) b) k 0) := by
  rw [← v1_at]
  blk_ext [iblk, idx t]

theorem blk1_at (t : Fin cfg0.N) (b : Fin 2000) (k : Fin 150) :
    iblk m c 1 t (ix2 b k) = A m c (ix3 (row (pt t) b) k 1) := by
  rw [← v3_at]
  blk_ext [iblk, idx t]

theorem blk2_at (t : Fin cfg0.N) (q : Fin 5) (b : Fin 2000) :
    iblk m c 2 t (ix3 0 q b) = (V m c main_v10 : FVec Ideal S25x5x2000 .f32) (ix3 (pt t) q b) := by
  blk_ext [iblk, idx t]

/-- What the region's output array ends holding: at (`t`, `q`, `b`), result `q` of row `2000 t + b`. -/
def blocks : FVec Ideal S25x2x2000 .f32 := fun j =>
  rowOut (A m c) (P m c) (D m c) (J m c) (row (j 0) (j 2)) (j 1)

/-- Every segment number names a segment. -/
def Segments : Prop := ∀ r : Fin 50000, (J m c (ix1 r)).toNat < 149

/-- The block's row `b` names row `2000 t + b` of every array, so the block computes that row's results. -/
theorem block_row (hJ : Segments m c) (t : Fin cfg0.N) (q : Fin 2) (b : Fin 2000) :
    out0_3 (F := Ideal) (iblk m c 0 t) (iblk m c 1 t) (iblk m c 2 t) (ix3 0 q b)
      = rowOut (A m c) (P m c) (D m c) (J m c) (row (pt t) b) q := by
  have e0 : (fun k => iblk m c 0 t (ix2 b k)) = fun k => A m c (ix3 (row (pt t) b) k 0) := funext fun k => blk0_at m c t b k
  have e1 : (fun k => iblk m c 1 t (ix2 b k)) = fun k => A m c (ix3 (row (pt t) b) k 1) := funext fun k => blk1_at m c t b k
  have f0 : iblk m c 2 t (ix3 0 0 b) = P m c (ix2 (row (pt t) b) 0) :=
    (blk2_at m c t 0 b).trans ((v10_at m c (pt t) 0 b).trans (dif_pos (show (0 : Nat) < 2 by decide)))
  have f1 : iblk m c 2 t (ix3 0 1 b) = P m c (ix2 (row (pt t) b) 1) :=
    (blk2_at m c t 1 b).trans ((v10_at m c (pt t) 1 b).trans (dif_pos (show (1 : Nat) < 2 by decide)))
  have f2 : iblk m c 2 t (ix3 0 2 b) = D m c (ix2 (row (pt t) b) 0) :=
    (blk2_at m c t 2 b).trans ((v10_at m c (pt t) 2 b).trans ((dif_neg (show ¬ (2 : Nat) < 2 by decide)).trans
      (dif_pos (show (2 - 2 : Nat) < 2 by decide))))
  have f3 : iblk m c 2 t (ix3 0 3 b) = D m c (ix2 (row (pt t) b) 1) :=
    (blk2_at m c t 3 b).trans ((v10_at m c (pt t) 3 b).trans ((dif_neg (show ¬ (3 : Nat) < 2 by decide)).trans
      (dif_pos (show (3 - 2 : Nat) < 2 by decide))))
  have f4 : iblk m c 2 t (ix3 0 4 b) = FloatOps.sitofp (F := Ideal) .f32 (J m c (ix1 (row (pt t) b))) :=
    (blk2_at m c t 4 b).trans ((v10_at m c (pt t) 4 b).trans ((dif_neg (show ¬ (4 : Nat) < 2 by decide)).trans
      (dif_neg (show ¬ (4 - 2 : Nat) < 2 by decide))))
  have e := segOf_spec _ (hJ (row (pt t) b))
  have h : Ideal.fptosi 32 (iblk m c 2 t (ix3 0 4 b)) = BitVec.ofNat 32 (segOf (J m c (ix1 (row (pt t) b)))).val :=
    (congrArg (Ideal.fptosi 32) f4).trans ((fptosi_word _ (hJ (row (pt t) b))).trans e)
  refine (block_at (iblk m c 0 t) (iblk m c 1 t) (iblk m c 2 t) (segOf (J m c (ix1 (row (pt t) b)))) h q).trans ?_
  rw [e0, e1, f0, f1, f2, f3]
  rfl

/-- The region's output array ends holding every row's results. -/
theorem arr (hJ : Segments m c) : (dats m 0 c).arrAt 3 cfg0.N = blocks m c := by
  refine (dats m 0 c).arrAt_eq_of_covers 3 _ (by decide +kernel) fun t hf y => ?_
  obtain ⟨q, b, rfl⟩ : ∃ (q : Fin 2) (b : Fin 2000), y = (ix3 0 q b : S1x2x2000.Idx) :=
    ⟨y 1, y 2, (eq_ix3 (n0 := 1) (n1 := 2) (n2 := 2000) y).trans
      (congrArg (fun z : Fin 1 => ix3 z (y 1) (y 2)) (Subsingleton.elim (α := Fin 1) (y 0) 0))⟩
  have ee : ((cfg0.win 3).blk t).view.emb (ix3 0 q b : S1x2x2000.Idx) = (ix3 (pt t) q b : S25x2x2000.Idx) := by
    blk_ext [idx t]
  rw [ee]
  refine Eq.trans ?_ (block_row m c hJ t q b)
  rw [← after0_3]
  blk_simp

end Cert.Lane
-- ==== Proof.Kernel.lean ====
/-
  The kernel's run: its result array holds every row's two results, and the arguments end unchanged.
-/
module

public import proofs.«01_k».proof.Proof.Array

@[expose] public section

set_option maxRecDepth 16384

noncomputable section

open Idealize.ShloMosaic Idealize.ShloMosaic.TcCoe Idealize.SL.Sem
open Cert.KernelIdeal Cert.KernelIdeal.Gen

namespace Cert.Lane

variable (m : (ℓ : Loc nD τ sig) → Buf (Elt Ideal) ℓ) (c : Dev nD)

/-- The two host operations after the region lay the blocks' results out by rows. -/
theorem tail_at (V' : Valuation τ sig (Elt Ideal)) (r : Fin 50000) (q : Fin 2) :
    (StableHlo.after hostOps1 V' (Proc.devRef .tc main_v13) : FVec Ideal S50000x2 .f32) (ix2 r q)
      = (V' (Proc.devRef .tc main_v11) : FVec Ideal S25x2x2000 .f32)
          (ix3 ⟨r.val / 2000, by omega⟩ q ⟨r.val % 2000, by omega⟩) := by
  after_reads_at

/-- The result array after the run. -/
theorem final (hJ : Segments m c) :
    Pipeline.afterTail₀ cfgs (dats m) 0 (V0 m) [hostOps1] c main_v13 = result (A m c) (P m c) (D m c) (J m c) := by
  unfold Pipeline.afterTail₀
  rw [List.flatten_cons, List.flatten_nil, List.append_nil]
  funext j
  obtain ⟨r, q, rfl⟩ : ∃ (r : Fin 50000) (q : Fin 2), j = (ix2 r q : S50000x2.Idx) :=
    ⟨j 0, j 1, eq_ix2 (n0 := 50000) (n1 := 2) j⟩
  refine (tail_at _ r q).trans ?_
  have e := (Pipeline.withArrays_arr spec0 (by decide +kernel) c (V0 m c) (fun w => (dats m 0 c).arrAt w cfg0.N) 3).trans
    (arr m c hJ)
  refine (congrFun e _).trans ?_
  have er : row ⟨r.val / 2000, by omega⟩ ⟨r.val % 2000, by omega⟩ = r := Fin.ext (Nat.div_add_mod' r.val 2000)
  show rowOut (A m c) (P m c) (D m c) (J m c) (row ⟨r.val / 2000, _⟩ ⟨r.val % 2000, _⟩) q = _
  rw [er]
  rfl

/-- The kernel's run, read: the result array at every row's results, the arguments unchanged. -/
theorem kernel_run (ρ : Dev nD → PrngReg) (hJ : ∀ c, Segments m c) :
    θ_run defs (onTc (τ := τ) (main (F := Ideal))) ⟨m, fun _ => 0, ρ⟩ (fun r => ∀ c : Dev nD,
      r.2.mem ((c.tc : Thread nD τ).loc main_v13) = result (A m c) (P m c) (D m c) (J m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v13 (Pipeline.mem_restRefs_of main_v13 (by decide) (by decide))).trans
      (final m c (hJ c)), h.2 c⟩)
    (θ_run_and (run_main m ρ) (unchanged m ρ))

end Cert.Lane
-- ==== Proof.Ref.lean ====
/-
  What the reference computes: its result term read at a row.
-/
module

public import proofs.«01_k».proof.Proof.Gen.ReferenceIdeal.Run
public import proofs.«01_k».proof.Proof.Spec
public import Idealize.ShloMosaic.Lib.DynamicIndex

@[expose] public section

set_option maxRecDepth 16384

noncomputable section

open Idealize.ShloMosaic Idealize.ShloMosaic.TcCoe
open Cert.ReferenceIdeal Cert.ReferenceIdeal.Gen Cert.ReferenceIdeal.Value

namespace Cert.Lane.Ref

/-- A row's number as the reference spells it: an iota, wrapped where it is negative. -/
def rows : IVec S50000 32 :=
  select (cmpi .slt (iotaInDim S50000 32 0) (broadcastInDim S50000 ![] bcast_S_S50000 (constantI S_ 32 0#32)))
    (addi (iotaInDim S50000 32 0) (broadcastInDim S50000 ![] bcast_S_S50000 (constantI S_ 32 50000#32)))
    (iotaInDim S50000 32 0)

/-- A point's number as the reference spells it, wrapped where it is negative. -/
def wrap (j : IVec S50000 32) : IVec S50000 32 :=
  select (cmpi .slt j (broadcastInDim S50000 ![] bcast_S_S50000 (constantI S_ 32 0#32)))
    (addi j (broadcastInDim S50000 ![] bcast_S_S50000 (constantI S_ 32 150#32))) j

/-- The lanes' points at the numbers `j`. -/
def point (A : FVec Ideal S50000x150x4 .f32) (j : IVec S50000 32) : FVec Ideal S50000x2 .f32 :=
  Host.gather gather_S50000x150x4_S50000x3_S50000x2_1_01_n_n_012_1_112 A
    (concatenate S50000x3 1 [⟨S50000x1, broadcastInDim S50000x1 ![0] bcast_S50000_S50000x1_0 rows⟩,
      ⟨S50000x1, broadcastInDim S50000x1 ![0] bcast_S50000_S50000x1_0 (wrap j)⟩,
      ⟨S50000x1, broadcastInDim S50000x1 ![] bcast_S_S50000x1 (constantI S_ 32 0#32)⟩]
      concatenates_S50000x1_S50000x1_S50000x1_S50000x3_d1)

/-- The unit vectors along the steps `v`. -/
def direction (v : FVec Ideal S50000x2 .f32) : FVec Ideal S50000x2 .f32 :=
  Host.divf v (shapeCast S50000x2 (broadcastInDim S1x50000x2x1 ![0, 1, 2, 3] bcast_S1x50000x1x1_S1x50000x2x1_0_1_2_3
    (shapeCast S1x50000x1x1 (shapeCast S50000x1 (Host.sqrt (Host.reduceAdd (mulf v v) (constant S_ .f32 0x00000000#32)
      reducesTo_S50000x2_S50000_d1 h_S_)) shapeCasts_S50000_S50000x1) shapeCasts_S50000x1_S1x50000x1x1))
    shapeCasts_S1x50000x2x1_S50000x2)

/-- The lengths of the lanes' segments, a zero before them. -/
def lengths (A : FVec Ideal S50000x150x4 .f32) : FVec Ideal S50000x150 .f32 :=
  concatenate S50000x150 1 [⟨S50000x1, broadcastInDim S50000x1 ![] bcast_S_S50000x1 (constant S_ .f32 0x00000000#32)⟩,
    ⟨S50000x149, Host.sqrt (Host.reduceAdd (mulf
      (subf (extractStridedSlice S50000x149x2 ![0, 1, 0] A slices_S50000x150x4_S50000x149x2_0_1_0)
        (extractStridedSlice S50000x149x2 ![0, 0, 0] A slices_S50000x150x4_S50000x149x2_0_0_0))
      (subf (extractStridedSlice S50000x149x2 ![0, 1, 0] A slices_S50000x150x4_S50000x149x2_0_1_0)
        (extractStridedSlice S50000x149x2 ![0, 0, 0] A slices_S50000x150x4_S50000x149x2_0_0_0)))
      (constant S_ .f32 0x00000000#32) reducesTo_S50000x149x2_S50000x149_d2 h_S_)⟩]
    concatenates_S50000x1_S50000x149_S50000x150_d1

/-- A row's number is not negative, so the wrap leaves it, -/
theorem rows_at (r : Fin 50000) : rows (ix1 r) = BitVec.ofNat 32 r.val := by
  unfold rows
  refine (select_slt_zero_of_nonneg (iotaInDim S50000 32 0) _ _ (ix1 r) ?_).trans rfl
  show 0 ≤ (BitVec.ofNat 32 r.val).toInt
  rw [toInt_ofNat_of_lt (by omega)]
  omega

/-- and a point's number that is not negative likewise. -/
theorem wrap_at (j : IVec S50000 32) (r : Fin 50000) (h : 0 ≤ (j (ix1 r)).toInt) : wrap j (ix1 r) = j (ix1 r) :=
  select_slt_zero_of_nonneg j _ _ (ix1 r) h

/-- A step's direction: each coordinate over the step's length. -/
theorem direction_at (v : FVec Ideal S50000x2 .f32) (r : Fin 50000) (q : Fin 2) :
    direction v (ix2 r q) = Ideal.div (v (ix2 r q)) (len (v (ix2 r 0)) (v (ix2 r 1))) := by
  pointwise [direction]
  rw [Fin.sum_univ_two]
  rfl

/-- The lengths at position `k`: nothing at the first point, the segment before it elsewhere. -/
theorem lengths_at (A : FVec Ideal S50000x150x4 .f32) (r : Fin 50000) (k : Fin 150) :
    lengths A (ix2 r k) = if h : k.val < 1 then 0
      else seg (fun k => A (ix3 r k 0)) (fun k => A (ix3 r k 1)) ⟨k.val - 1, by omega⟩ := by
  pointwise [lengths]
  simp only [Fin.sum_univ_two]
  rfl

/-- The gather of a point's two coordinates, at numbers that name a row and a point. -/
theorem gather3 (A : FVec Ideal S50000x150x4 .f32) (idx : IVec S50000x3 32) (r : Fin 50000) (q : Fin 2) :
    Host.gather gather_S50000x150x4_S50000x3_S50000x2_1_01_n_n_012_1_112 A idx (ix2 r q)
      = A (ix3 ⟨min (idx (ix2 r 0)).toInt.toNat 49999, by omega⟩ ⟨min (idx (ix2 r 1)).toInt.toNat 149, by omega⟩
          ⟨min (idx (ix2 r 2)).toInt.toNat 2 + q.val, by omega⟩) := by
  unfold Host.gather
  have e (k : Fin 3) : GatherDims.siIdx gather_S50000x150x4_S50000x3_S50000x2_1_01_n_n_012_1_112 (ix2 r q) k = ix2 r k := by
    funext b
    match b with
    | ⟨0, _⟩ => rfl
    | ⟨1, _⟩ => rfl
  refine congrArg A (funext fun a => Fin.ext ?_)
  match a with
  | ⟨0, _⟩ =>
    show _ = min (idx (ix2 r 0)).toInt.toNat 49999
    rw [← e 0]
    rfl
  | ⟨1, _⟩ =>
    show _ = min (idx (ix2 r 1)).toInt.toNat 149
    rw [← e 1]
    rfl
  | ⟨2, _⟩ =>
    show _ = min (idx (ix2 r 2)).toInt.toNat 2 + q.val
    rw [← e 2]
    rfl

/-- The gather of one entry of a row. -/
theorem gather2 (X : FVec Ideal S50000x150 .f32) (idx : IVec S50000x2 32) (r : Fin 50000) :
    Host.gather gather_S50000x150_S50000x2_S50000_n_01_n_n_01_1_11 X idx (ix1 r)
      = X (ix2 ⟨min (idx (ix2 r 0)).toInt.toNat 49999, by omega⟩ ⟨min (idx (ix2 r 1)).toInt.toNat 149, by omega⟩) := by
  unfold Host.gather
  have e (k : Fin 2) : GatherDims.siIdx gather_S50000x150_S50000x2_S50000_n_01_n_n_01_1_11 (ix1 r) k = ix2 r k := by
    funext b
    match b with
    | ⟨0, _⟩ => rfl
    | ⟨1, _⟩ => rfl
  refine congrArg X (funext fun a => Fin.ext ?_)
  match a with
  | ⟨0, _⟩ =>
    show _ = min (idx (ix2 r 0)).toInt.toNat 49999
    rw [← e 0]
    rfl
  | ⟨1, _⟩ =>
    show _ = min (idx (ix2 r 1)).toInt.toNat 149
    rw [← e 1]
    rfl

/-- A left fold that adds up is the sum. -/
theorem foldl_sum {n : Nat} (g : Fin n → EReal) : (List.finRange n).foldl (fun r k => r + g k) 0 = ∑ k, g k := by
  rw [Fin.sum_univ_def, List.sum_eq_foldl, List.foldl_map]

/-- Of the window that ends at entry `k`, the part inside the row is the row's entries up to `k`. -/
theorem sum_shift (F : Nat → EReal) (k : Fin 150) :
    (∑ b : Fin 150, if 149 ≤ k.val + b.val then F (k.val + b.val - 149) else 0)
      = ∑ j : Fin 150, if j.val ≤ k.val then F j.val else 0 := by
  rw [Fin.sum_univ_eq_sum_range (fun b => if 149 ≤ k.val + b then F (k.val + b - 149) else 0) 150,
    Fin.sum_univ_eq_sum_range (fun j => if j ≤ k.val then F j else 0) 150, ← Finset.sum_filter, ← Finset.sum_filter]
  refine Finset.sum_nbij' (fun b => k.val + b - 149) (fun j => j + 149 - k.val) ?_ ?_ ?_ ?_ ?_ <;>
    intro b hb <;> simp only [Finset.mem_filter, Finset.mem_range] at hb ⊢ <;> omega

/-- The window sum along a row is the sum of the row's entries up to `k`. -/
theorem cumsum_at (X : FVec Ideal S50000x150 .f32) (init : FVec Ideal S_ .f32) (hi : ∀ i, init i = (0 : EReal))
    (r : Fin 50000) (k : Fin 150) :
    Host.reduceWindowAdd ![1, 150] ![1, 1] ![0, 149] ![0, 0] X init reduceWindows_S50000x150_S50000x150_w1s1p0_0_w150s1p149_0
        h_S_ (ix2 r k)
      = (∑ j : Fin 150, if j.val ≤ k.val then X (ix2 r j) else 0 : EReal) := by
  unfold Host.reduceWindowAdd
  rw [hi, Ideal.hostReduceWindowAdd_def]
  unfold Ideal.hostReduceWindowAdd Host.reduceWindow
  refine (foldl_sum _).trans ?_
  let F : Nat → EReal := fun j => if h : j < 150 then X (ix2 r ⟨j, h⟩) else 0
  let H : (⟨2, ![1, 150]⟩ : Shape).Idx → EReal := fun w => if 149 ≤ k.val + (w 1).val then F (k.val + (w 1).val - 149) else 0
  have eF : (∑ w, H w) = ∑ j : Fin 150, if j.val ≤ k.val then X (ix2 r j) else 0 := by
    rw [sum_idx2, Fin.sum_univ_one]
    refine (sum_shift F k).trans (Finset.sum_congr rfl fun j _ => ?_)
    rw [show F j.val = X (ix2 r j) from dif_pos j.isLt]
  refine Eq.trans (Finset.sum_congr rfl fun n _ => ?_) (((Shape.rowMajor (⟨2, ![1, 150]⟩ : Shape)).symm.sum_comp H).trans eF)
  have ha : (((Shape.rowMajor (⟨2, ![1, 150]⟩ : Shape)).symm n) 0).val < 1 := (((Shape.rowMajor (⟨2, ![1, 150]⟩ : Shape)).symm n) 0).isLt
  let b' : Fin 150 := ((Shape.rowMajor (⟨2, ![1, 150]⟩ : Shape)).symm n) 1
  let b : Nat := b'.val
  let a0 : Nat := (((Shape.rowMajor (⟨2, ![1, 150]⟩ : Shape)).symm n) 0).val
  have ha : a0 < 1 := ha
  show _ = if 149 ≤ k.val + b then F (k.val + b - 149) else 0
  have hk := k.isLt
  have hb : b < 150 := b'.isLt
  by_cases h : 149 ≤ k.val + b
  · have hj : k.val + b - 149 < 150 := by omega
    rw [if_pos h, show F (k.val + b - 149) = X (ix2 r ⟨k.val + b - 149, hj⟩) from dif_pos hj, dif_pos]
    · refine congrArg X (funext fun a => Fin.ext ?_)
      match a with
      | ⟨0, _⟩ => show r.val * 1 + a0 - 0 = r.val; omega
      | ⟨1, _⟩ => show k.val * 1 + b - 149 = k.val + b - 149; omega
    · intro a
      match a with
      | ⟨0, _⟩ => have hr := r.isLt; show 0 ≤ r.val * 1 + a0 ∧ r.val * 1 + a0 - 0 < 50000; omega
      | ⟨1, _⟩ => show 149 ≤ k.val * 1 + b ∧ k.val * 1 + b - 149 < 150; omega
  · rw [if_neg h, dif_neg]
    intro hin
    have h1 : 149 ≤ k.val * 1 + b := (hin 1).1
    omega

end Cert.Lane.Ref
-- ==== Proof.RefValue.lean ====
/-
  The reference's result array holds every row's two results.
-/
module

public import proofs.«01_k».proof.Proof.Ref

@[expose] public section

set_option maxRecDepth 16384

noncomputable section

open Idealize.ShloMosaic Idealize.ShloMosaic.TcCoe
open Cert.ReferenceIdeal Cert.ReferenceIdeal.Gen Cert.ReferenceIdeal.Value

namespace Cert.Lane.Ref

/-- The lengths up to position `k` sum to the arclength at point `k`. -/
theorem prefix_at (A : FVec Ideal S50000x150x4 .f32) (r : Fin 50000) (k : Nat) :
    (∑ j : Fin 150, if j.val ≤ k then lengths A (ix2 r j) else 0 : EReal)
      = arc (fun k => A (ix3 r k 0)) (fun k => A (ix3 r k 1)) k := by
  rw [Fin.sum_univ_succ, lengths_at, dif_pos (show ((0 : Fin 150).val) < 1 by decide), ite_self, zero_add]
  unfold arc
  refine Finset.sum_congr rfl fun j _ => ?_
  rw [lengths_at, dif_neg (show ¬ (j.succ.val < 1) by rw [Fin.val_succ]; omega)]
  exact if_congr (by rw [Fin.val_succ]; omega) rfl rfl

/-- A small word read as an integer is its number. -/
theorem toInt_small (w : BitVec 32) (h : w.toNat < 150) : w.toInt = (w.toNat : Int) := by
  rw [BitVec.toInt_eq_toNat_cond, if_pos (by omega)]

/-- The three columns of the numbers a point is gathered at, of which the first is the row, -/
theorem idx3_row (j : IVec S50000 32) (r : Fin 50000) :
    (concatenate S50000x3 1 [⟨S50000x1, broadcastInDim S50000x1 ![0] bcast_S50000_S50000x1_0 rows⟩,
      ⟨S50000x1, broadcastInDim S50000x1 ![0] bcast_S50000_S50000x1_0 (wrap j)⟩,
      ⟨S50000x1, broadcastInDim S50000x1 ![] bcast_S_S50000x1 (constantI S_ 32 0#32)⟩]
      concatenates_S50000x1_S50000x1_S50000x1_S50000x3_d1 : IVec S50000x3 32) (ix2 r 0) = rows (ix1 r) := by
  pointwise

/-- the second the point, -/
theorem idx3_point (j : IVec S50000 32) (r : Fin 50000) :
    (concatenate S50000x3 1 [⟨S50000x1, broadcastInDim S50000x1 ![0] bcast_S50000_S50000x1_0 rows⟩,
      ⟨S50000x1, broadcastInDim S50000x1 ![0] bcast_S50000_S50000x1_0 (wrap j)⟩,
      ⟨S50000x1, broadcastInDim S50000x1 ![] bcast_S_S50000x1 (constantI S_ 32 0#32)⟩]
      concatenates_S50000x1_S50000x1_S50000x1_S50000x3_d1 : IVec S50000x3 32) (ix2 r 1) = wrap j (ix1 r) := by
  pointwise

/-- and the third zero. -/
theorem idx3_zero (j : IVec S50000 32) (r : Fin 50000) :
    (concatenate S50000x3 1 [⟨S50000x1, broadcastInDim S50000x1 ![0] bcast_S50000_S50000x1_0 rows⟩,
      ⟨S50000x1, broadcastInDim S50000x1 ![0] bcast_S50000_S50000x1_0 (wrap j)⟩,
      ⟨S50000x1, broadcastInDim S50000x1 ![] bcast_S_S50000x1 (constantI S_ 32 0#32)⟩]
      concatenates_S50000x1_S50000x1_S50000x1_S50000x3_d1 : IVec S50000x3 32) (ix2 r 2) = 0#32 := by
  pointwise

/-- A row's number, read back. -/
theorem rows_toNat (r : Fin 50000) : min (rows (ix1 r)).toInt.toNat 49999 = r.val := by
  rw [rows_at, toInt_ofNat_of_lt (by omega)]
  omega

/-- A point's number, read back. -/
theorem wrap_toNat (j : IVec S50000 32) (r : Fin 50000) (i : Fin 150) (h : (j (ix1 r)).toNat = i.val) :
    min (wrap j (ix1 r)).toInt.toNat 149 = i.val := by
  have e := toInt_small (j (ix1 r)) (by omega)
  rw [wrap_at j r (by omega), e]
  omega

/-- The gathered point: the coordinates of point `i` of the row's lane. -/
theorem point_at (A : FVec Ideal S50000x150x4 .f32) (j : IVec S50000 32) (r : Fin 50000) (i : Fin 150)
    (h : (j (ix1 r)).toNat = i.val) (q : Fin 2) : point A j (ix2 r q) = A (ix3 r i ⟨q.val, by omega⟩) := by
  unfold point
  rw [gather3]
  have e0 := (congrArg (fun w : BitVec 32 => min w.toInt.toNat 49999) (idx3_row j r)).trans (rows_toNat r)
  have e1 := (congrArg (fun w : BitVec 32 => min w.toInt.toNat 149) (idx3_point j r)).trans (wrap_toNat j r i h)
  have e2 := congrArg (fun w : BitVec 32 => min w.toInt.toNat 2 + q.val) (idx3_zero j r)
  refine congrArg A (funext fun a => Fin.ext ?_)
  match a with
  | ⟨0, _⟩ => exact e0
  | ⟨1, _⟩ => exact e1
  | ⟨2, _⟩ => exact e2.trans (Nat.zero_add _)

/-- The reference's arclengths at the points `j`. -/
def arcs (A : FVec Ideal S50000x150x4 .f32) (j : IVec S50000 32) : FVec Ideal S50000 .f32 :=
  Host.gather gather_S50000x150_S50000x2_S50000_n_01_n_n_01_1_11
    (Host.reduceWindowAdd ![1, 150] ![1, 1] ![0, 149] ![0, 0] (lengths A)
      (broadcastInDim S_ ![] bcast_S_S_ (constant S_ .f32 0x00000000#32))
      reduceWindows_S50000x150_S50000x150_w1s1p0_0_w150s1p149_0 h_S_)
    (concatenate S50000x2 1 [⟨S50000x1, broadcastInDim S50000x1 ![0] bcast_S50000_S50000x1_0 rows⟩,
      ⟨S50000x1, broadcastInDim S50000x1 ![0] bcast_S50000_S50000x1_0 (wrap j)⟩]
      concatenates_S50000x1_S50000x1_S50000x2_d1)

/-- The arclength gathered at point `i`. -/
theorem arcs_at (A : FVec Ideal S50000x150x4 .f32) (j : IVec S50000 32) (r : Fin 50000) (i : Fin 150)
    (h : (j (ix1 r)).toNat = i.val) :
    arcs A j (ix1 r) = arc (fun k => A (ix3 r k 0)) (fun k => A (ix3 r k 1)) i.val := by
  unfold arcs
  rw [gather2]
  have c0 : (concatenate S50000x2 1 [⟨S50000x1, broadcastInDim S50000x1 ![0] bcast_S50000_S50000x1_0 rows⟩,
      ⟨S50000x1, broadcastInDim S50000x1 ![0] bcast_S50000_S50000x1_0 (wrap j)⟩]
      concatenates_S50000x1_S50000x1_S50000x2_d1 : IVec S50000x2 32) (ix2 r 0) = rows (ix1 r) := by
    pointwise
  have c1 : (concatenate S50000x2 1 [⟨S50000x1, broadcastInDim S50000x1 ![0] bcast_S50000_S50000x1_0 rows⟩,
      ⟨S50000x1, broadcastInDim S50000x1 ![0] bcast_S50000_S50000x1_0 (wrap j)⟩]
      concatenates_S50000x1_S50000x1_S50000x2_d1 : IVec S50000x2 32) (ix2 r 1) = wrap j (ix1 r) := by
    pointwise
  have e0 := (congrArg (fun w : BitVec 32 => min w.toInt.toNat 49999) c0).trans (rows_toNat r)
  have e1 := (congrArg (fun w : BitVec 32 => min w.toInt.toNat 149) c1).trans (wrap_toNat j r i h)
  refine Eq.trans (congrArg _ ?_) ((cumsum_at (lengths A) _ ?_ r i).trans (prefix_at A r i.val))
  · funext a
    match a with
    | ⟨0, _⟩ => exact Fin.ext e0
    | ⟨1, _⟩ => exact Fin.ext e1
  · intro _
    pointwise

/-- The reference's steps along the segments. -/
def steps (A : FVec Ideal S50000x150x4 .f32) (j j' : IVec S50000 32) : FVec Ideal S50000x2 .f32 :=
  subf (point A j') (point A j)

/-- The reference's first result. -/
def along (A : FVec Ideal S50000x150x4 .f32) (p : FVec Ideal S50000x2 .f32) (j j' : IVec S50000 32) :
    FVec Ideal S50000 .f32 :=
  addf (arcs A j) (Host.reduceAdd (mulf (subf p (point A j)) (direction (steps A j j')))
    (constant S_ .f32 0x00000000#32) reducesTo_S50000x2_S50000_d1 h_S_)

/-- The reference's second result, of the displacements `d` and the directions `v`. -/
def across (d v : FVec Ideal S50000x2 .f32) : FVec Ideal S50000 .f32 :=
  subf (mulf (shapeCast S50000 (extractStridedSlice S50000x1 ![0, 0] d slices_S50000x2_S50000x1_0_0) shapeCasts_S50000x1_S50000)
      (shapeCast S50000 (extractStridedSlice S50000x1 ![0, 1] v slices_S50000x2_S50000x1_0_1) shapeCasts_S50000x1_S50000))
    (mulf (shapeCast S50000 (extractStridedSlice S50000x1 ![0, 1] d slices_S50000x2_S50000x1_0_1) shapeCasts_S50000x1_S50000)
      (shapeCast S50000 (extractStridedSlice S50000x1 ![0, 0] v slices_S50000x2_S50000x1_0_0) shapeCasts_S50000x1_S50000))

/-- The result array: the two results side by side. -/
def both (A : FVec Ideal S50000x150x4 .f32) (p d : FVec Ideal S50000x2 .f32) (j j' : IVec S50000 32) :
    FVec Ideal S50000x2 .f32 :=
  concatenate S50000x2 1 [⟨S50000x1, shapeCast S50000x1 (along A p j j') shapeCasts_S50000_S50000x1⟩,
    ⟨S50000x1, shapeCast S50000x1 (across d (direction (steps A j j'))) shapeCasts_S50000_S50000x1⟩]
    concatenates_S50000x1_S50000x1_S50000x2_d1

section
variable (A : FVec Ideal S50000x150x4 .f32) (p d : FVec Ideal S50000x2 .f32) (j j' : IVec S50000 32) (r : Fin 50000)
  (i : Fin 149) (h : (j (ix1 r)).toNat = (lo i).val) (h' : (j' (ix1 r)).toNat = (hi i).val)
include h h'

/-- A step of a segment: its end less its start. -/
theorem steps_at (q : Fin 2) :
    steps A j j' (ix2 r q) = A (ix3 r (hi i) ⟨q.val, by omega⟩) - A (ix3 r (lo i) ⟨q.val, by omega⟩) := by
  unfold steps
  show point A j' (ix2 r q) - point A j (ix2 r q) = _
  rw [point_at A j r (lo i) h, point_at A j' r (hi i) h']

/-- A segment's direction: the unit vector along it. -/
theorem unit_at (q : Fin 2) : direction (steps A j j') (ix2 r q)
    = unit (fun k => A (ix3 r k 0)) (fun k => A (ix3 r k 1)) i (fun k => A (ix3 r k ⟨q.val, by omega⟩)) := by
  rw [direction_at, steps_at A j j' r i h h', steps_at A j j' r i h h', steps_at A j j' r i h h']
  rfl

/-- The first result of a row. -/
theorem along_at : along A p j j' (ix1 r)
    = arcOf (fun k => A (ix3 r k 0)) (fun k => A (ix3 r k 1)) (p (ix2 r 0)) (p (ix2 r 1)) i := by
  pointwise [along]
  rw [Fin.sum_univ_two, arcs_at A j r (lo i) h, unit_at A j j' r i h h', unit_at A j j' r i h h',
    point_at A j r (lo i) h, point_at A j r (lo i) h]
  rfl

/-- The second result of a row. -/
theorem across_at : across d (direction (steps A j j')) (ix1 r)
    = lateral (fun k => A (ix3 r k 0)) (fun k => A (ix3 r k 1)) (d (ix2 r 0)) (d (ix2 r 1)) i := by
  pointwise [across]
  refine (congrArg₂ (fun u v => d (ix2 r 0) * v - d (ix2 r 1) * u) (unit_at A j j' r i h h' 0)
    (unit_at A j j' r i h h' 1)).trans rfl

/-- The two results of a row, as the array holds them. -/
theorem both_at (q : Fin 2) : both A p d j j' (ix2 r q)
    = out (fun k => A (ix3 r k 0)) (fun k => A (ix3 r k 1)) (p (ix2 r 0)) (p (ix2 r 1)) (d (ix2 r 0)) (d (ix2 r 1)) i q := by
  pointwise [both]
  match q with
  | ⟨0, _⟩ => exact (dif_pos (show (0 : Nat) < 1 by decide)).trans (along_at A p j j' r i h h')
  | ⟨1, _⟩ => exact (dif_neg (show ¬ (1 : Nat) < 1 by decide)).trans (across_at A d j j' r i h h')

end

variable (m : (ℓ : Loc nD τ sig) → Buf (Elt Ideal) ℓ) (c : Dev nD)

/-- The term the reference's run leaves is that array. -/
theorem term_eq : res_main_v80 m c = both (m ((c.tc : Thread nD τ).loc main_arg4)) (m ((c.tc : Thread nD τ).loc main_arg0))
    (m ((c.tc : Thread nD τ).loc main_arg1)) (m ((c.tc : Thread nD τ).loc main_arg2)) (m ((c.tc : Thread nD τ).loc main_arg3)) := by
  unfold res_main_v80
  rfl

/-- A row's first number, -/
def before (r : Fin 50000) : BitVec 32 := (m ((c.tc : Thread nD τ).loc main_arg2) : IVec S50000 32) (ix1 r)
/-- and its second. -/
def after (r : Fin 50000) : BitVec 32 := (m ((c.tc : Thread nD τ).loc main_arg3) : IVec S50000 32) (ix1 r)

/-- The reference's result array, where every row's segment is one of the lane's and its end is the next point. -/
theorem value (h : ∀ r : Fin 50000, (before m c r).toNat < 149)
    (h' : ∀ r : Fin 50000, after m c r = before m c r + 1#32) :
    res_main_v80 m c = result (m ((c.tc : Thread nD τ).loc main_arg4)) (m ((c.tc : Thread nD τ).loc main_arg0))
      (m ((c.tc : Thread nD τ).loc main_arg1)) (m ((c.tc : Thread nD τ).loc main_arg2)) := by
  rw [term_eq]
  funext a
  obtain ⟨r, q, rfl⟩ : ∃ (r : Fin 50000) (q : Fin 2), a = (ix2 r q : S50000x2.Idx) :=
    ⟨a 0, a 1, eq_ix2 (n0 := 50000) (n1 := 2) a⟩
  have hr := h r
  have e : (before m c r).toNat = (segOf (before m c r)).val := (Nat.min_eq_left (Nat.lt_succ_iff.mp hr)).symm
  refine both_at _ _ _ _ _ r (segOf (before m c r)) e ?_ q
  show (after m c r).toNat = 1 + (segOf (before m c r)).val
  rw [h' r, BitVec.toNat_add, ← e]
  show ((before m c r).toNat + 1) % 4294967296 = 1 + (before m c r).toNat
  omega

end Cert.Lane.Ref
-- ==== Proof.Segments.lean ====
/-
  What the precondition says of a row: its segment is one of the lane's, and the segment's end is the next point.
-/
module

public import proofs.«01_k».proof.Proof.Gen.Pre_segments_of_the_lane
public import Idealize.ShloMosaic.Lib.Pipeline.ValueKit
public import Idealize.ShloMosaic.Lib.Affine

@[expose] public section

noncomputable section

open Idealize.ShloMosaic
open Cert.Pre_segments_of_the_lane

namespace Cert.Lane

/-- The precondition, read at a row: the first number is below 149 and the second is the one after it. -/
theorem segments_of_pre (p d : FVec Ideal S50000x2 .f32) (j j' : IVec S50000 32) (A : FVec Ideal S50000x150x4 .f32)
    (h : (Cert.Pre_segments_of_the_lane.fn (F := Ideal) p d j j' A) = fun _ => 1#1) (r : Fin 50000) :
    (j (ix1 r)).toNat < 149 ∧ j' (ix1 r) = j (ix1 r) + 1#32 := by
  have e := congrFun h (ix1 r)
  change IntOp.andi (IntOp.andi (IntOp.cmpi .sge (j (ix1 r)) 0#32) (IntOp.cmpi .slt (j (ix1 r)) 149#32))
    (IntOp.cmpi .eq (j' (ix1 r)) (j (ix1 r) + 1#32)) = 1#1 at e
  obtain ⟨e, e3⟩ := IntOp.andi_eq_one.mp e
  obtain ⟨e1, e2⟩ := IntOp.andi_eq_one.mp e
  have h1 : 0 ≤ (j (ix1 r)).toInt := IntOp.cmpi_sge.mp e1
  have h2 : (j (ix1 r)).toInt < 149 := IntOp.cmpi_slt.mp e2
  refine ⟨?_, IntOp.cmpi_eq.mp e3⟩
  rw [BitVec.toInt_eq_toNat_cond] at h1 h2
  split at h1 <;> omega

end Cert.Lane
-- ==== Proof.lean ====
/-
  The certificate: the kernel's frame, its ideal reading's frame, the reference's frame, and the two programs' equal results
  on every input whose segments are the lane's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_segments_of_the_lane
public import Idealize.ShloMosaic.Lib.Quiescent
public import proofs.«01_k».proof.Proof.Kernel
public import proofs.«01_k».proof.Proof.RefValue
public import proofs.«01_k».proof.Proof.Segments
public import Idealize.ShloMosaic.Adequacy
public import Idealize.ShloMosaic.Init

@[expose] public section

noncomputable section

namespace Cert.Proof

open Idealize.ShloMosaic Idealize.SL.Sem

/-- The reference runs, leaves its arguments as they were, and every counter ends at zero. -/
theorem reference_frame : Cert.quiescent_ReferenceIdeal (hReferenceIdeal := Cert.ReferenceIdeal.Gen.facts) :=
  fun m ρ _ => (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The two programs' results are equal: both hold, at every row, the arclength of the projected point and the signed
    lateral offset. -/
theorem equal_results : Cert.algebraic_KernelIdeal_ReferenceIdeal_pre_segments_of_the_lane
    (hKernelIdeal := Cert.KernelIdeal.Gen.facts) (hReferenceIdeal := Cert.ReferenceIdeal.Gen.facts)
    (hPre_segments_of_the_lane := Cert.Pre_segments_of_the_lane.Gen.facts) := by
  intro m g m' g' hp ha
  have hs (c : Dev Cert.KernelIdeal.nD) (r : Fin 50000) := Cert.Lane.segments_of_pre _ _ _ _ _ (hp c) r
  refine ⟨fun c => Cert.Lane.result (Cert.Lane.A m c) (Cert.Lane.P m c) (Cert.Lane.D m c) (Cert.Lane.J m c),
    Cert.Lane.kernel_run m g fun c r => (hs c r).1, ?_⟩
  refine (θ_run (Cert.ReferenceIdeal.defs (F := Ideal)) _ _).mono (fun r h c => ⟨(h c).1.trans ?_, (h c).2⟩)
    (Cert.ReferenceIdeal.Value.run (F := Ideal) m' g')
  obtain ⟨e0, e1, e2, e3, e4⟩ := ha c
  refine (Cert.Lane.Ref.value m' c ?_ ?_).trans ?_
  · intro r
    unfold Cert.Lane.Ref.before
    rw [e2]
    exact (hs c r).1
  · intro r
    unfold Cert.Lane.Ref.before Cert.Lane.Ref.after
    rw [e2, e3]
    exact (hs c r).2
  · rw [e0, e1, e2, e4]

/-- Everything the certificate claims. -/
theorem claim : Cert.Claim :=
  ⟨Cert.Kernel.Gen.facts, Cert.KernelIdeal.Gen.facts, Cert.ReferenceIdeal.Gen.facts, Cert.Pre_segments_of_the_lane.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal_results⟩

end Cert.Proof

end
